-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v7)) (v2 : (c : Dev Cert.KernelIdeal.nD) → Buf (Elt Ideal) ((c.tc : Thread Cert.KernelIdeal.nD Cert.KernelIdeal.τ).loc Cert.KernelIdeal.main_v9)) (v3 : (c : Dev Cert.KernelIdeal.nD) → Buf (Elt Ideal) ((c.tc : Thread Cert.KernelIdeal.nD Cert.KernelIdeal.τ).loc Cert.KernelIdeal.main_v10)) (v4 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_v9) = v2 c
          ∧ r.2.mem ((c.tc : Thread Cert.KernelIdeal.nD Cert.KernelIdeal.τ).loc Cert.KernelIdeal.main_v10) = v3 c
          ∧ r.2.mem ((c.tc : Thread Cert.KernelIdeal.nD Cert.KernelIdeal.τ).loc Cert.KernelIdeal.main_v13) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_v4) = v1 c
          ∧ r.2.mem ((c.tc : Thread Cert.ReferenceIdeal.nD Cert.ReferenceIdeal.τ).loc Cert.ReferenceIdeal.main_v5) = v2 c
          ∧ r.2.mem ((c.tc : Thread Cert.ReferenceIdeal.nD Cert.ReferenceIdeal.τ).loc Cert.ReferenceIdeal.main_v6) = v3 c
          ∧ r.2.mem ((c.tc : Thread Cert.ReferenceIdeal.nD Cert.ReferenceIdeal.τ).loc Cert.ReferenceIdeal.main_v7) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x128x18432 : Shape := ⟨3, ![2, 128, 18432]⟩
abbrev S7168x18432 : Shape := ⟨2, ![7168, 18432]⟩
abbrev S18432 : Shape := ⟨1, ![18432]⟩
abbrev S256x18432 : Shape := ⟨2, ![256, 18432]⟩
abbrev S1x18432 : Shape := ⟨2, ![1, 18432]⟩
abbrev S256x128 : Shape := ⟨2, ![256, 128]⟩
abbrev S32x18432 : Shape := ⟨2, ![32, 18432]⟩
abbrev S32x128 : Shape := ⟨2, ![32, 128]⟩
abbrev S32 : Shape := ⟨1, ![32]⟩
abbrev S32x1 : Shape := ⟨2, ![32, 1]⟩
abbrev S256x7168 : Shape := ⟨2, ![256, 7168]⟩
abbrev S1x128 : Shape := ⟨2, ![1, 128]⟩
abbrev S256x256 : Shape := ⟨2, ![256, 256]⟩
abbrev S256x1 : Shape := ⟨2, ![256, 1]⟩
abbrev S256 : Shape := ⟨1, ![256]⟩
abbrev S1x256 : Shape := ⟨2, ![1, 256]⟩
abbrev S2x128 : Shape := ⟨2, ![2, 128]⟩
abbrev S128 : Shape := ⟨1, ![128]⟩
abbrev S16x128 : Shape := ⟨2, ![16, 128]⟩
abbrev S256x1024 : Shape := ⟨2, ![256, 1024]⟩
abbrev S1x1x128 : Shape := ⟨3, ![1, 1, 128]⟩
abbrev S1 : Shape := ⟨1, ![1]⟩
abbrev S1x1x1 : Shape := ⟨3, ![1, 1, 1]⟩
abbrev S1x1 : Shape := ⟨2, ![1, 1]⟩
abbrev S8x128 : Shape := ⟨2, ![8, 128]⟩
abbrev S2x128x7168 : Shape := ⟨3, ![2, 128, 7168]⟩
abbrev S_ : Shape := ⟨0, ![]⟩

abbrev nBuf : Space → Nat
  | .hbm => 21
  | .vmem => 22
  | .smem => 0
  | _ => 0

abbrev bufTy : (tb : Table) → Fin (tcTables nBuf tb) → BufTy
  | .hbm, ⟨0, _⟩ => ⟨S2x128x18432, .bf16⟩
  | .hbm, ⟨1, _⟩ => ⟨S7168x18432, .fp8e4m3⟩
  | .hbm, ⟨2, _⟩ => ⟨S18432, .f32⟩
  | .hbm, ⟨3, _⟩ => ⟨S256x18432, .bf16⟩
  | .hbm, ⟨4, _⟩ => ⟨S1x18432, .f32⟩
  | .hbm, ⟨5, _⟩ => ⟨S256x18432, .fp8e5m2⟩
  | .hbm, ⟨6, _⟩ => ⟨S256x18432, .bf16⟩
  | .hbm, ⟨7, _⟩ => ⟨S256x128, .f32⟩
  | .hbm, ⟨8, _⟩ => ⟨S256x7168, .f32⟩
  | .hbm, ⟨9, _⟩ => ⟨S1x128, .f32⟩
  | .hbm, ⟨10, _⟩ => ⟨S256x7168, .fp8e5m2⟩
  | .hbm, ⟨11, _⟩ => ⟨S16x128, .f32⟩
  | .hbm, ⟨12, _⟩ => ⟨S2x128x7168, .fp8e5m2⟩
  | .hbm, ⟨13, _⟩ => ⟨S1x1, .f32⟩
  | .hbm, ⟨14, _⟩ => ⟨S_, .f32⟩
  | .hbm, ⟨15, _⟩ => ⟨S1x1, .f32⟩
  | .hbm, ⟨16, _⟩ => ⟨S_, .f32⟩
  | .hbm, ⟨17, _⟩ => ⟨S2x128x18432, .fp8e5m2⟩
  | .hbm, ⟨18, _⟩ => ⟨S256x1, .f32⟩
  | .hbm, ⟨19, _⟩ => ⟨S256, .f32⟩
  | .hbm, ⟨20, _⟩ => ⟨S2x128, .f32⟩
  | .local _ .vmem, ⟨0, _⟩ => ⟨S32x18432, .bf16⟩
  | .local _ .vmem, ⟨1, _⟩ => ⟨S32x18432, .bf16⟩
  | .local _ .vmem, ⟨2, _⟩ => ⟨S1x18432, .f32⟩
  | .local _ .vmem, ⟨3, _⟩ => ⟨S32x18432, .fp8e5m2⟩
  | .local _ .vmem, ⟨4, _⟩ => ⟨S32x18432, .fp8e5m2⟩
  | .local _ .vmem, ⟨5, _⟩ => ⟨S32x18432, .bf16⟩
  | .local _ .vmem, ⟨6, _⟩ => ⟨S32x18432, .bf16⟩
  | .local _ .vmem, ⟨7, _⟩ => ⟨S32x128, .f32⟩
  | .local _ .vmem, ⟨8, _⟩ => ⟨S32x128, .f32⟩
  | .local _ .vmem, ⟨9, _⟩ => ⟨S256x18432, .bf16⟩
  | .local _ .vmem, ⟨10, _⟩ => ⟨S256x18432, .fp8e4m3⟩
  | .local _ .vmem, ⟨11, _⟩ => ⟨S256x18432, .fp8e4m3⟩
  | .local _ .vmem, ⟨12, _⟩ => ⟨S256x128, .f32⟩
  | .local _ .vmem, ⟨13, _⟩ => ⟨S256x256, .f32⟩
  | .local _ .vmem, ⟨14, _⟩ => ⟨S256x256, .f32⟩
  | .local _ .vmem, ⟨15, _⟩ => ⟨S1x128, .f32⟩
  | .local _ .vmem, ⟨16, _⟩ => ⟨S256x1024, .f32⟩
  | .local _ .vmem, ⟨17, _⟩ => ⟨S256x1024, .f32⟩
  | .local _ .vmem, ⟨18, _⟩ => ⟨S1x128, .f32⟩
  | .local _ .vmem, ⟨19, _⟩ => ⟨S256x1024, .fp8e5m2⟩
  | .local _ .vmem, ⟨20, _⟩ => ⟨S256x1024, .fp8e5m2⟩
  | .local _ .vmem, ⟨21, _⟩ => ⟨S16x128, .f32⟩
  | _, _ => ⟨S2x128x18432, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v3_0 : Ref sig .tc := ⟨.hbm, 8, rfl⟩
abbrev main_v3_1 : Ref sig .tc := ⟨.hbm, 9, rfl⟩
abbrev main_v4_0 : Ref sig .tc := ⟨.hbm, 10, rfl⟩
abbrev main_v4_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem3_1 : DmaSem sig := 14
abbrev cc1_sem4_0 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem2_1 : DmaSem sig := 20
abbrev cc2_sem3_0 : DmaSem sig := 21

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x18432 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x18432 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S32x18432 .fp8e5m2 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x18432 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![28], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S256x18432 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S256x18432 .fp8e4m3 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S256x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev grid2 : Pipeline.Grid := ⟨1, ![7], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S256x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S256x1024 .fp8e5m2 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S16x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]
-- ==== ReferenceIdeal.lean ====
abbrev S2x128x18432 : Shape := ⟨3, ![2, 128, 18432]⟩
abbrev S7168x18432 : Shape := ⟨2, ![7168, 18432]⟩
abbrev S18432 : Shape := ⟨1, ![18432]⟩
abbrev S256x18432 : Shape := ⟨2, ![256, 18432]⟩
abbrev S1x18432 : Shape := ⟨2, ![1, 18432]⟩
abbrev S256x7168 : Shape := ⟨2, ![256, 7168]⟩
abbrev S1x1 : Shape := ⟨2, ![1, 1]⟩
abbrev S256x1 : Shape := ⟨2, ![256, 1]⟩
abbrev S256 : Shape := ⟨1, ![256]⟩
abbrev S1x256x7168 : Shape := ⟨3, ![1, 256, 7168]⟩
abbrev S1 : Shape := ⟨1, ![1]⟩
abbrev S1x1x1 : Shape := ⟨3, ![1, 1, 1]⟩
abbrev S2x128x7168 : Shape := ⟨3, ![2, 128, 7168]⟩
abbrev S_ : Shape := ⟨0, ![]⟩
abbrev S2x128 : Shape := ⟨2, ![2, 128]⟩

abbrev nBuf : Space → Nat
  | .hbm => 15
  | .vmem => 8
  | .smem => 0
  | _ => 0

abbrev bufTy : (tb : Table) → Fin (tcTables nBuf tb) → BufTy
  | .hbm, ⟨0, _⟩ => ⟨S2x128x18432, .bf16⟩
  | .hbm, ⟨1, _⟩ => ⟨S7168x18432, .fp8e4m3⟩
  | .hbm, ⟨2, _⟩ => ⟨S18432, .f32⟩
  | .hbm, ⟨3, _⟩ => ⟨S256x18432, .bf16⟩
  | .hbm, ⟨4, _⟩ => ⟨S1x18432, .f32⟩
  | .hbm, ⟨5, _⟩ => ⟨S256x7168, .fp8e5m2⟩
  | .hbm, ⟨6, _⟩ => ⟨S1x1, .f32⟩
  | .hbm, ⟨7, _⟩ => ⟨S1x1, .f32⟩
  | .hbm, ⟨8, _⟩ => ⟨S256x18432, .fp8e5m2⟩
  | .hbm, ⟨9, _⟩ => ⟨S256x1, .f32⟩
  | .hbm, ⟨10, _⟩ => ⟨S2x128x7168, .fp8e5m2⟩
  | .hbm, ⟨11, _⟩ => ⟨S_, .f32⟩
  | .hbm, ⟨12, _⟩ => ⟨S_, .f32⟩
  | .hbm, ⟨13, _⟩ => ⟨S2x128x18432, .fp8e5m2⟩
  | .hbm, ⟨14, _⟩ => ⟨S2x128, .f32⟩
  | .local _ .vmem, ⟨0, _⟩ => ⟨S256x18432, .bf16⟩
  | .local _ .vmem, ⟨1, _⟩ => ⟨S7168x18432, .fp8e4m3⟩
  | .local _ .vmem, ⟨2, _⟩ => ⟨S1x18432, .f32⟩
  | .local _ .vmem, ⟨3, _⟩ => ⟨S256x7168, .fp8e5m2⟩
  | .local _ .vmem, ⟨4, _⟩ => ⟨S1x1, .f32⟩
  | .local _ .vmem, ⟨5, _⟩ => ⟨S1x1, .f32⟩
  | .local _ .vmem, ⟨6, _⟩ => ⟨S256x18432, .fp8e5m2⟩
  | .local _ .vmem, ⟨7, _⟩ => ⟨S256x1, .f32⟩
  | _, _ => ⟨S2x128x18432, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev main_v2_4 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S256x18432 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S7168x18432 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x18432 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x7168 .fp8e5m2 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S256x18432 .fp8e5m2 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S256x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Pow2.lean ====
/-
  The scalar fact behind the quantiser: the exponent field that the kernel finds by bisection, and the power of two that
  the reference takes from a logarithm, give the same scale and the same inverse scale, at every extended real.
-/
module

public import Idealize.ShloMosaic.PureOps.Ideal
public import Mathlib.Analysis.SpecialFunctions.Pow.Real

public import Mathlib.Tactic.Linarith

@[expose] public section

set_option maxRecDepth 16384

noncomputable section

open Idealize.ShloMosaic

namespace Cert.Pow2

/-- The float that the bit pattern with exponent field `t` (sign and significand zero) denotes. -/
def thr (t : BitVec 32) : EReal := Ideal.ofBits .f32 (t <<< (23#32 : BitVec 32))

/-- One step of the bisection: keep the field `e`, or raise it by `s` when `x` reaches the float of field `e + s`. -/
def step (x : EReal) (s e : BitVec 32) : BitVec 32 := if x < thr (e + s) then e else e + s

/-- The exponent field of `x`: eight steps, from the highest bit down. -/
def field (x : EReal) : BitVec 32 :=
  step x 1#32 (step x 2#32 (step x 4#32 (step x 8#32 (step x 16#32 (step x 32#32 (step x 64#32 (step x 128#32 0#32)))))))

/-- The field with its upper end at 252 and an absent exponent (0) read as 126. -/
def field' (x : EReal) : BitVec 32 :=
  let e := IntOp.minsi (field x) 252#32
  if e = 0#32 then 126#32 else e

/-- The kernel's scale: the power of two just above `x`. -/
def kscale (x : EReal) : EReal := thr (field' x + 1#32)

/-- The kernel's inverse scale. -/
def kinv (x : EReal) : EReal := thr (253#32 - field' x)

/-- The reference's exponent: that of the binary fraction `x = f · 2 ^ e`, `1/2 ≤ f < 1`; 0 below the least normal number
    (2 ^ -126) and 126 at most. -/
def expo (x : EReal) : EReal :=
  if x < Ideal.ofBits .f32 0x00800000#32 then Ideal.ofBits .f32 0x00000000#32
  else min (Ideal.liftRound Int.floor (Ideal.div (Ideal.log x) (Ideal.log (Ideal.ofBits .f32 0x40000000#32)))
    + Ideal.ofBits .f32 0x3F800000#32) (Ideal.ofBits .f32 0x42FC0000#32)

/-- The three parts of a pattern that has only an exponent field `k`. -/
theorem parts : ∀ k : Fin 256, ((BitVec.ofNat 32 k.val <<< (23#32 : BitVec 32)).extractLsb' 31 1 = 0#1)
    ∧ ((BitVec.ofNat 32 k.val <<< (23#32 : BitVec 32)).extractLsb' 23 8).toNat = k.val
    ∧ ((BitVec.ofNat 32 k.val <<< (23#32 : BitVec 32)).extractLsb' 0 23).toNat = 0 := by decide +kernel

/-- A binary32 pattern with sign and significand zero and exponent field `1 ≤ k ≤ 254` denotes `2 ^ (k - 127)`. -/
theorem ofBits_of_parts (b : BitVec 32) (k : ℕ) (h1 : 1 ≤ k) (h2 : k ≤ 254) (p1 : b.extractLsb' 31 1 = 0#1)
    (p2 : (b.extractLsb' 23 8).toNat = k) (p3 : (b.extractLsb' 0 23).toNat = 0) :
    Ideal.ofBits .f32 b = (((2 : ℝ) ^ ((k : ℤ) - 127) : ℝ) : EReal) := by
  show Ideal.ieee 8 23 b = _
  have e : Ideal.ieee 8 23 b = (((if (b.extractLsb' 31 1 == 1#1) = true then (-1 : ℝ) else 1)
      * (2 ^ 23 + (b.extractLsb' 0 23).toNat : ℕ) * (2 : ℝ) ^ (((b.extractLsb' 23 8).toNat : ℤ) - (2 ^ (8 - 1) - 1 : ℤ) - (23 : ℕ)) : ℝ) : EReal) := by
    unfold Ideal.ieee
    rw [if_neg (by rw [p2]; omega), if_neg (by rw [p2]; omega)]
  rw [e, p1, p2, p3, if_neg (by decide), one_mul]
  congr 1
  rw [Nat.add_zero, Nat.cast_pow, Nat.cast_ofNat, ← zpow_natCast (2 : ℝ) 23, ← zpow_add₀ (by norm_num)]
  congr 1
  push_cast
  ring

/-- A pattern of exponent field `1 ≤ k ≤ 254` denotes `2 ^ (k - 127)`. -/
theorem thr_eq (k : ℕ) (h1 : 1 ≤ k) (h2 : k ≤ 254) : thr (BitVec.ofNat 32 k) = (((2 : ℝ) ^ ((k : ℤ) - 127) : ℝ) : EReal) :=
  have p := parts ⟨k, by omega⟩
  ofBits_of_parts _ k h1 h2 p.1 p.2.1 p.2.2

/-- What the bisection keeps: `x` lies at or above the float of field `k` (or `k = 0`) and below that of field `k + w` (or
    `k + w = 256`). -/
def Brk (x : EReal) (k w : ℕ) : Prop :=
  k + w ≤ 256 ∧ (k = 0 ∨ thr (BitVec.ofNat 32 k) ≤ x) ∧ (k + w = 256 ∨ x < thr (BitVec.ofNat 32 (k + w)))

/-- One step halves the bracket. -/
theorem step_brk (x : EReal) (s : ℕ) (e : BitVec 32) (h : ∃ k, e = BitVec.ofNat 32 k ∧ Brk x k (s + s)) (hs : 1 ≤ s) :
    ∃ k, step x (BitVec.ofNat 32 s) e = BitVec.ofNat 32 k ∧ Brk x k s := by
  obtain ⟨k, rfl, hb, hl, hu⟩ := h
  have hadd : BitVec.ofNat 32 k + BitVec.ofNat 32 s = BitVec.ofNat 32 (k + s) := (BitVec.ofNat_add k s).symm
  unfold step
  rw [hadd]
  by_cases hx : x < thr (BitVec.ofNat 32 (k + s))
  · exact ⟨k, if_pos hx, by omega, hl, .inr hx⟩
  · refine ⟨k + s, if_neg hx, by omega, .inr (not_lt.mp hx), ?_⟩
    rwa [Nat.add_assoc]

/-- The bisection ends at a field `k ≤ 255` with `x` in its binade. -/
theorem field_brk (x : EReal) : ∃ k, field x = BitVec.ofNat 32 k ∧ Brk x k 1 :=
  step_brk x 1 _ (step_brk x 2 _ (step_brk x 4 _ (step_brk x 8 _ (step_brk x 16 _ (step_brk x 32 _ (step_brk x 64 _
    (step_brk x 128 _ ⟨0, rfl, by omega, .inl rfl, .inl rfl⟩
    (by omega)) (by omega)) (by omega)) (by omega)) (by omega)) (by omega)) (by omega)) (by omega)

/-- The pattern of all zeros denotes 0. -/
theorem c_zero : Ideal.ofBits .f32 0x00000000#32 = 0 := by simp [Ideal.ofBits, Ideal.ieee]
/-- The least normal number is the threshold of field 1. -/
theorem c_min : Ideal.ofBits .f32 0x00800000#32 = thr (BitVec.ofNat 32 1) := rfl
/-- The constant one. -/
theorem c_one : Ideal.ofBits .f32 0x3F800000#32 = ((1 : ℝ) : EReal) := by
  rw [ofBits_of_parts _ 127 (by omega) (by omega) (by decide) (by decide) (by decide)]; norm_num
/-- The constant two. -/
theorem c_two : Ideal.ofBits .f32 0x40000000#32 = ((2 : ℝ) : EReal) := by
  rw [ofBits_of_parts _ 128 (by omega) (by omega) (by decide) (by decide) (by decide)]; norm_num
/-- The constant 126. -/
theorem c_126 : Ideal.ofBits .f32 0x42FC0000#32 = ((126 : ℝ) : EReal) := by
  simp [Ideal.ofBits, Ideal.ieee, -EReal.coe_mul]; norm_num

/-- `Ideal.exp2` at an integer. -/
theorem exp2_int (n : ℤ) : Ideal.exp2 (((n : ℝ)) : EReal) = (((2 : ℝ) ^ n : ℝ) : EReal) := by
  show ((Real.rpow 2 (n : ℝ) : ℝ) : EReal) = _
  congr 1
  exact Real.rpow_intCast 2 n

/-- The kernel's field after its two corrections, from the field the bisection found. -/
theorem field'_eq (x : EReal) (k : ℕ) (hk : k < 256) (h : field x = BitVec.ofNat 32 k) :
    field' x = BitVec.ofNat 32 (if k = 0 then 126 else if k ≤ 252 then k else 252) := by
  unfold field'
  rw [h]
  have : ∀ k : Fin 256, (let e := IntOp.minsi (BitVec.ofNat 32 k.val) 252#32
      if e = 0#32 then 126#32 else e) = BitVec.ofNat 32 (if k.val = 0 then 126 else if k.val ≤ 252 then k.val else 252) := by
    decide +kernel
  exact this ⟨k, hk⟩

/-- The exponent of a real in the binade `[2 ^ n, 2 ^ (n + 1))` before the upper end is applied. -/
theorem floor_log (r : ℝ) (n : ℤ) (h1 : (2 : ℝ) ^ n ≤ r) (h2 : r < (2 : ℝ) ^ (n + 1)) :
    Ideal.liftRound Int.floor (Ideal.div (Ideal.log (r : EReal)) (Ideal.log ((2 : ℝ) : EReal))) = ((n : ℝ) : EReal) := by
  have hr : 0 < r := lt_of_lt_of_le (by positivity) h1
  have hl : 0 < Real.log 2 := Real.log_pos (by norm_num)
  have e1 : Ideal.log (r : EReal) = ((Real.log r : ℝ) : EReal) := if_neg (not_le.mpr hr)
  have e2 : Ideal.log ((2 : ℝ) : EReal) = ((Real.log 2 : ℝ) : EReal) := if_neg (by norm_num)
  rw [e1, e2]
  unfold Ideal.div
  rw [if_neg (by simpa using hl.ne'), ← EReal.coe_inv, ← EReal.coe_mul]
  show (((⌊Real.log r * (Real.log 2)⁻¹⌋ : ℤ) : ℝ) : EReal) = _
  congr 2
  rw [Int.floor_eq_iff, ← div_eq_mul_inv]
  constructor
  · rw [le_div_iff₀ hl, ← Real.log_zpow]
    exact Real.log_le_log (by positivity) h1
  · rw [div_lt_iff₀ hl]
    have := Real.log_lt_log hr h2
    rw [Real.log_zpow] at this
    exact_mod_cast this

/-- The reference's exponent, from the field the bisection found. -/
theorem expo_eq (x : EReal) (k : ℕ) (h : Brk x k 1) :
    expo x = (((if k = 0 then 0 else if k ≤ 252 then (k : ℤ) - 126 else 126 : ℤ) : ℝ) : EReal) := by
  obtain ⟨hb, hl, hu⟩ := h
  unfold expo
  rw [c_zero, c_min, c_one, c_two, c_126]
  by_cases hk : k = 0
  · subst hk
    rw [if_pos (hu.resolve_left (by omega)), if_pos rfl]
    simp
  have hl := hl.resolve_left hk
  rw [if_neg hk]
  have hmin : thr (BitVec.ofNat 32 1) ≤ x := by
    refine le_trans ?_ hl
    by_cases hk' : k ≤ 254
    · rw [thr_eq 1 (by omega) (by omega), thr_eq k (by omega) hk']
      exact EReal.coe_le_coe_iff.mpr (zpow_le_zpow_right₀ (by norm_num) (by omega))
    · rw [show k = 255 by omega]
      have : thr (BitVec.ofNat 32 255) = ⊤ := by
        show Ideal.ieee 8 23 0x7F800000#32 = ⊤
        simp [Ideal.ieee]
      rw [this]; exact le_top
  rw [if_neg (not_lt.mpr hmin)]
  by_cases hk2 : k ≤ 252
  · have hu := hu.resolve_left (by omega)
    rw [thr_eq k (by omega) (by omega)] at hl
    rw [thr_eq (k + 1) (by omega) (by omega)] at hu
    rw [if_pos hk2]
    induction x using EReal.rec with
    | bot => exact absurd hl (by simp)
    | top => exact absurd hu (by simp)
    | coe r =>
      rw [floor_log r ((k : ℤ) - 127) (EReal.coe_le_coe_iff.mp hl)
        (by have := EReal.coe_lt_coe_iff.mp hu; push_cast at this; rwa [show (k : ℤ) - 127 + 1 = (k : ℤ) + 1 - 127 by ring])]
      rw [← EReal.coe_add, min_eq_left]
      · congr 1; push_cast; ring
      · refine EReal.coe_le_coe_iff.mpr ?_
        have : (k : ℝ) ≤ 252 := by exact_mod_cast hk2
        push_cast; linarith
  · rw [if_neg hk2, min_eq_right]
    · norm_num
    have hl' : (((2 : ℝ) ^ (126 : ℤ) : ℝ) : EReal) ≤ x := by
      refine le_trans ?_ hl
      by_cases hk' : k ≤ 254
      · rw [thr_eq k (by omega) hk']
        exact EReal.coe_le_coe_iff.mpr (zpow_le_zpow_right₀ (by norm_num) (by omega))
      · rw [show k = 255 by omega]
        have : thr (BitVec.ofNat 32 255) = ⊤ := by
          show Ideal.ieee 8 23 0x7F800000#32 = ⊤
          simp [Ideal.ieee]
        rw [this]; exact le_top
    have hlog2 : 0 < Real.log 2 := Real.log_pos (by norm_num)
    have e2 : Ideal.log ((2 : ℝ) : EReal) = ((Real.log 2 : ℝ) : EReal) := if_neg (by norm_num)
    induction x using EReal.rec with
    | bot => exact absurd hl' (not_le.mpr (EReal.bot_lt_coe _))
    | top =>
      have : Ideal.div (Ideal.log ⊤) (Ideal.log ((2 : ℝ) : EReal)) = ⊤ := by
        rw [e2]; unfold Ideal.div
        rw [if_neg (by simpa using hlog2.ne'), ← EReal.coe_inv]
        exact EReal.top_mul_coe_of_pos (inv_pos.mpr hlog2)
      rw [this]
      exact le_top
    | coe r =>
      have hr := EReal.coe_le_coe_iff.mp hl'
      have hr0 : 0 < r := lt_of_lt_of_le (by positivity) hr
      have e1 : Ideal.log (r : EReal) = ((Real.log r : ℝ) : EReal) := if_neg (not_le.mpr hr0)
      rw [e1, e2]
      unfold Ideal.div
      rw [if_neg (by simpa using hlog2.ne'), ← EReal.coe_inv, ← EReal.coe_mul]
      show _ ≤ (((⌊Real.log r * (Real.log 2)⁻¹⌋ : ℤ) : ℝ) : EReal) + _
      rw [← EReal.coe_add]
      refine EReal.coe_le_coe_iff.mpr ?_
      have : (126 : ℤ) ≤ ⌊Real.log r * (Real.log 2)⁻¹⌋ := by
        rw [Int.le_floor, ← div_eq_mul_inv, le_div_iff₀ hlog2, ← Real.log_zpow]
        exact Real.log_le_log (by positivity) hr
      have : (126 : ℝ) ≤ (⌊Real.log r * (Real.log 2)⁻¹⌋ : ℝ) := by exact_mod_cast this
      linarith

/-- THE SCALE: the kernel's power of two is the reference's, at every extended real. -/
theorem kscale_eq (x : EReal) : kscale x = Ideal.exp2 (expo x) := by
  obtain ⟨k, hf, hb⟩ := field_brk x
  have hk : k < 256 := by have := hb.1; omega
  rw [expo_eq x k hb, exp2_int]
  unfold kscale
  rw [field'_eq x k hk hf, show (1#32 : BitVec 32) = BitVec.ofNat 32 1 from rfl, ← BitVec.ofNat_add,
    thr_eq _ (by split_ifs <;> omega) (by split_ifs <;> omega)]
  congr 2
  split_ifs <;> push_cast <;> omega

/-- THE INVERSE SCALE, likewise. -/
theorem kinv_eq (x : EReal) : kinv x = Ideal.exp2 (0 - expo x) := by
  obtain ⟨k, hf, hb⟩ := field_brk x
  have hk : k < 256 := by have := hb.1; omega
  rw [expo_eq x k hb, zero_sub, ← EReal.coe_neg, ← Int.cast_neg, exp2_int]
  unfold kinv
  have hsub : ∀ n : ℕ, n ≤ 253 → (253#32 : BitVec 32) - BitVec.ofNat 32 n = BitVec.ofNat 32 (253 - n) := by
    intro n hn
    apply BitVec.eq_of_toNat_eq
    simp only [BitVec.toNat_sub, BitVec.toNat_ofNat]
    omega
  rw [field'_eq x k hk hf, hsub _ (by split_ifs <;> omega),
    thr_eq _ (by split_ifs <;> omega) (by split_ifs <;> omega)]
  congr 2
  split_ifs <;> push_cast <;> omega

end Cert.Pow2
end
-- ==== Proof.Field.lean ====
/-
  The kernel's exponent search on whole vectors, at any shape: what each lane of the two scale vectors holds.
-/
module

public import proofs.«01_k».proof.Proof.Pow2
public import Idealize.ShloMosaic.Lib.Pointwise

@[expose] public section

set_option maxRecDepth 16384

noncomputable section

open Idealize.ShloMosaic

namespace Cert.Pow2

variable {s : Shape}

/-- One bisection step on a vector, in the kernel's operations. -/
def vstep (x : FVec Ideal s .f32) (k : BitVec 32) (e : IVec s 32) : IVec s 32 :=
  select (cmpf .olt x (bitcastToFloat .f32 (shli (addi e (broadcast s k)) (broadcast s 23#32)))) e (addi e (broadcast s k))

/-- Lane by lane it is the scalar step. -/
theorem vstep_apply (x : FVec Ideal s .f32) (k : BitVec 32) (e : IVec s 32) (j : s.Idx) :
    vstep x k e j = step (x j) k (e j) := by
  pointwise [vstep, step, thr]
  rfl

/-- The whole search on a vector. -/
def vfield (x : FVec Ideal s .f32) : IVec s 32 :=
  vstep x 1#32 (vstep x 2#32 (vstep x 4#32 (vstep x 8#32 (vstep x 16#32 (vstep x 32#32 (vstep x 64#32 (vstep x 128#32
    (broadcast s 0#32))))))))

/-- Lane by lane the search on a vector is the scalar search. -/
theorem vfield_apply (x : FVec Ideal s .f32) (j : s.Idx) : vfield x j = field (x j) := by
  unfold vfield field
  simp only [vstep_apply]
  rfl

/-- The field with its corrections, in the kernel's operations (the test `x · 0 = 0` is false of an infinity or a NaN in
    floating point; over the extended reals it is true of every `x`). -/
def vfield' (x : FVec Ideal s .f32) : IVec s 32 :=
  let e := select (cmpf .oeq (mulf x (broadcast s (Scalar.ofBits .f32 0x00000000#32))) (broadcast s (Scalar.ofBits .f32 0x00000000#32)))
    (minsi (vfield x) (broadcast s 252#32)) (broadcast s 255#32)
  select (cmpi .eq e (broadcast s 0#32)) (broadcast s 126#32) e

/-- Lane by lane the corrected field of a vector is the scalar one. -/
theorem vfield'_apply (x : FVec Ideal s .f32) (j : s.Idx) : vfield' x j = field' (x j) := by
  have h : (select (cmpf .oeq (mulf x (broadcast s (Scalar.ofBits .f32 0x00000000#32))) (broadcast s (Scalar.ofBits .f32 0x00000000#32)))
    (minsi (vfield x) (broadcast s 252#32)) (broadcast s 255#32) : IVec s 32) j = IntOp.minsi (field (x j)) 252#32 := by
    pointwise []
    rw [vfield_apply]
    simp
  unfold vfield' field'
  pointwise [] at h ⊢
  rw [h]
  by_cases h0 : IntOp.minsi (field (x j)) 252#32 = 0#32
  · rw [h0]; rfl
  · rw [show IntOp.cmpi .eq (IntOp.minsi (field (x j)) 252#32) 0#32 = 0#1 from by
      simp only [IntOp.cmpi, beq_eq_false_iff_ne.mpr h0]; rfl]
    exact (if_neg h0).symm ▸ rfl

/-- The scale vector. -/
theorem vscale_apply (x : FVec Ideal s .f32) (j : s.Idx) :
    (bitcastToFloat .f32 (shli (addi (vfield' x) (broadcast s 1#32)) (broadcast s 23#32)) : FVec Ideal s .f32) j
      = Ideal.exp2 (expo (x j)) := by
  rw [← kscale_eq]
  unfold kscale thr
  pointwise []
  rw [vfield'_apply]
  rfl

/-- The inverse scale vector. -/
theorem vinv_apply (x : FVec Ideal s .f32) (j : s.Idx) :
    (bitcastToFloat .f32 (shli (subi (broadcast s 253#32) (vfield' x)) (broadcast s 23#32)) : FVec Ideal s .f32) j
      = Ideal.exp2 (0 - expo (x j)) := by
  rw [← kinv_eq]
  unfold kinv thr
  pointwise []
  rw [vfield'_apply]
  rfl

end Cert.Pow2
end
-- ==== Proof.Spec.lean ====
/-
  The mathematics of the problem, element by element on the extended reals: what both programs are shown to compute.
-/
module

public import proofs.«01_k».proof.Proof.Field

@[expose] public section

noncomputable section

open Idealize.ShloMosaic

namespace Cert.Spec

/-- The absolute value. -/
abbrev abs (x : EReal) : EReal := FloatOps.absf (F := Ideal) (φ := .f32) x

/-- The start of every running maximum: minus infinity. -/
abbrev bot : EReal := Ideal.ofBits .f32 0xFF800000#32

/-- The exponent for an absolute maximum `a`: that of `a` times the constant nearest 1/57344. -/
def qexp (a : EReal) : EReal := Pow2.expo (a * Ideal.ofBits .f32 0x37924925#32)

/-- The scale for an absolute maximum `a`. -/
def qscale (a : EReal) : EReal := Ideal.exp2 (qexp a)

/-- The code of `v` under an absolute maximum `a`: `v` times the inverse scale, held between -57344 and 57344. -/
def qcode (v a : EReal) : EReal :=
  min (Ideal.ofBits .f32 0x47600000#32) (max (Ideal.ofBits .f32 0xC7600000#32) (v * Ideal.exp2 (0 - qexp a)))

/-- The absolute maximum of a row. -/
def rowMax {n : ℕ} (v : Fin n → EReal) : EReal := Finset.univ.fold max bot fun k => abs (v k)

/-- The shape of the gradient, batch and sequence joined. -/
abbrev Sdy : Shape := ⟨2, ![256, 18432]⟩
/-- The shape of the weight codes. -/
abbrev Sw : Shape := ⟨2, ![7168, 18432]⟩
/-- The shape of the weight scales. -/
abbrev Sws : Shape := ⟨2, ![1, 18432]⟩
/-- The shape of the row scales, each repeated over 128 lanes. -/
abbrev Ssc : Shape := ⟨2, ![256, 128]⟩
/-- The shape of the product. -/
abbrev Sdx : Shape := ⟨2, ![256, 7168]⟩
/-- The shape of the running maximum, one per lane. -/
abbrev Sam : Shape := ⟨2, ![1, 128]⟩

variable (X : FVec Ideal Sdy .bf16) (W : FVec Ideal Sw .fp8e4m3) (S : FVec Ideal Sws .f32)

/-- The absolute maximum of row `r` of the gradient. -/
def amaxX (r : Fin 256) : EReal := rowMax fun k : Fin 18432 => X (ix2 r k)

/-- The row's scale. -/
def dyScale (r : Fin 256) : EReal := qscale (amaxX X r)

/-- The code at row `r`, column `f`. -/
def dyCode (r : Fin 256) (f : Fin 18432) : EReal := qcode (X (ix2 r f)) (amaxX X r)

/-- The product with the dequantised weight, in units of the gradient. -/
def dx (r : Fin 256) (d : Fin 7168) : EReal :=
  (∑ f : Fin 18432, dyCode X r f * (W (ix2 d f) * S (ix2 0 f))) * dyScale X r

/-- The absolute maximum of the whole product. -/
def dxAmax : EReal := Finset.univ.fold max bot fun p : Fin 256 × Fin 7168 => abs (dx X W S p.1 p.2)

/-- Its scale. -/
def dxScale : EReal := qscale (dxAmax X W S)

/-- Its code at row `r`, column `d`. -/
def dxCode (r : Fin 256) (d : Fin 7168) : EReal := qcode (dx X W S r d) (dxAmax X W S)

end Cert.Spec
end
-- ==== Proof.RowsBlock.lean ====
/-
  The kernel's first launch: what one block of rows computes.
-/
module

public import proofs.«01_k».proof.Proof.Gen.KernelIdeal.Frame
public import proofs.«01_k».proof.Proof.Spec
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Rows

open Cert.KernelIdeal Cert.KernelIdeal.Gen

/-- The block's vector of scaled row maxima. -/
theorem pay4_apply (x : Vec Ideal S32x18432 .bf16) (j : S32x128.Idx) :
    k0_pay4 x j = Spec.rowMax (fun k : Fin 18432 => x (ix2 (j 0) k)) * Ideal.ofBits .f32 0x37924925#32 := by
  pointwise [k0_pay4, k0_pay3, Spec.rowMax]

/-- The block's scale vector is built from the corrected field of its scaled row maxima. -/
theorem pay9_eq (x : Vec Ideal S32x18432 .bf16) : k0_pay9 (k0_pay4 x) (k0_pay5 x) (k0_pay6 x) (k0_pay7 x)
    = bitcastToFloat .f32 (shli (addi (Pow2.vfield' (k0_pay4 x)) (broadcast S32x128 1#32)) (broadcast S32x128 23#32)) := rfl

/-- So are the bits of the block's inverse scales. -/
theorem pay10_eq (x : Vec Ideal S32x18432 .bf16) : k0_pay10 (k0_pay4 x) (k0_pay5 x) (k0_pay6 x) (k0_pay7 x)
    = shli (subi (broadcast S32x128 253#32) (Pow2.vfield' (k0_pay4 x))) (broadcast S32x128 23#32) := rfl

/-- The block's scales. -/
theorem scale_apply (x : Vec Ideal S32x18432 .bf16) (j : S32x128.Idx) :
    k0_pay9 (k0_pay4 x) (k0_pay5 x) (k0_pay6 x) (k0_pay7 x) j = Spec.qscale (Spec.rowMax (fun k : Fin 18432 => x (ix2 (j 0) k))) := by
  rw [pay9_eq, Pow2.vscale_apply, pay4_apply]; rfl

/-- The block's codes. -/
theorem code_apply (x : Vec Ideal S32x18432 .bf16) (j : S32x18432.Idx) :
    k0_pay1 (k0_pay3 x) (k0_pay10 (k0_pay4 x) (k0_pay5 x) (k0_pay6 x) (k0_pay7 x)) j
      = Spec.qcode (x j) (Spec.rowMax (fun k : Fin 18432 => x (ix2 (j 0) k))) := by
  have h := Pow2.vinv_apply (k0_pay4 x) (ix2 (j 0) 0)
  rw [← pay10_eq, pay4_apply] at h
  generalize k0_pay10 (k0_pay4 x) (k0_pay5 x) (k0_pay6 x) (k0_pay7 x) = w at h ⊢
  pointwise [k0_pay1, k0_pay3, Spec.qcode, Spec.qexp] at h ⊢
  rw [h]

/-- The block's left operand of the product. -/
theorem lhs_apply (x : Vec Ideal S32x18432 .bf16) (s : Vec Ideal S1x18432 .f32) (j : S32x18432.Idx) :
    k0_pay2 (k0_pay3 x) (k0_pay10 (k0_pay4 x) (k0_pay5 x) (k0_pay6 x) (k0_pay7 x)) s j
      = Spec.qcode (x j) (Spec.rowMax (fun k : Fin 18432 => x (ix2 (j 0) k))) * s (ix2 0 (j 1)) := by
  rw [← code_apply]
  pointwise [k0_pay2]

end Cert.KernelIdeal.Rows
end
-- ==== Proof.Rows.lean ====
/-
  The kernel's first launch: what its three output arrays hold after the run, for any contents at its entry.
-/
module

public import proofs.«01_k».proof.Proof.Gen.KernelIdeal.Frame
public import proofs.«01_k».proof.Proof.RowsBlock
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Rows

open Cert.KernelIdeal Cert.KernelIdeal.Gen

/-- The windows' index maps. -/
theorem idx : ∀ t : Fin cfg0.N, win0_0.index t = ![t.val, 0] ∧ win0_1.index t = ![0, 0] ∧ win0_2.index t = ![t.val, 0]
    ∧ win0_3.index t = ![t.val, 0] ∧ win0_4.index t = ![t.val, 0] :=
  (by decide +kernel : ∀ t : Fin grid0.N, _)

variable (V : (c : Dev nD) → (b : Ref sig .tc) → Buf (Elt Ideal) ((c : Thread nD τ).loc b))

/-- The codes' array. -/
theorem codes (c : Dev nD) : (dat0 V c).arrAt 2 cfg0.N = fun i : S256x18432.Idx => Spec.dyCode (V c main_v0) (i 0) (i 1) := by
  refine (dat0 V c).arrAt_eq_of_covers 2 _ (by decide +kernel) fun t _ y => ?_
  blk_simp
  rw [after0_2]
  unfold_out out0_2
  frame_out
  rw [code_apply]
  unfold Spec.dyCode Spec.amaxX
  blk_point [iblk0, idx t]

/-- The product's left operand: each code times its column's weight scale. -/
theorem lhs (c : Dev nD) : (dat0 V c).arrAt 3 cfg0.N
    = fun i : S256x18432.Idx => Spec.dyCode (V c main_v0) (i 0) (i 1) * (show FVec Ideal S1x18432 .f32 from V c main_v1) (ix2 0 (i 1)) := by
  refine (dat0 V c).arrAt_eq_of_covers 3 _ (by decide +kernel) fun t _ y => ?_
  blk_simp
  rw [after0_3]
  unfold_out out0_3
  frame_out
  rw [lhs_apply]
  unfold Spec.dyCode Spec.amaxX
  blk_point [iblk0, idx t]

/-- The rows' scales, one row's scale in all 128 lanes. -/
theorem scales (c : Dev nD) : (dat0 V c).arrAt 4 cfg0.N = fun i : S256x128.Idx => Spec.dyScale (V c main_v0) (i 0) := by
  refine (dat0 V c).arrAt_eq_of_covers 4 _ (by decide +kernel) fun t _ y => ?_
  blk_simp
  rw [after0_4]
  unfold_out out0_4
  frame_out
  rw [scale_apply]
  unfold Spec.dyScale Spec.amaxX
  blk_point [iblk0, idx t]

end Cert.KernelIdeal.Rows
end
-- ==== Proof.Mm.lean ====
/-
  The kernel's second launch: what its two output arrays hold after the run, for any contents at its entry. The
  product's array is written block by block; the absolute maximum is accumulated over the 28 points, lane by lane.
-/
module

public import proofs.«01_k».proof.Proof.Gen.KernelIdeal.Frame
public import proofs.«01_k».proof.Proof.Spec
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Mm

open Cert.KernelIdeal Cert.KernelIdeal.Gen

/-- The product of row `r` of the left operand with row `d` of the codes, times the row's scale (lane 0). -/
def prod (L : FVec Ideal S256x18432 .bf16) (W : FVec Ideal S7168x18432 .fp8e4m3) (C : FVec Ideal S256x128 .f32)
    (r : Fin 256) (d : Fin 7168) : EReal :=
  (∑ k : Fin 18432, L (ix2 r k) * W (ix2 d k)) * C (ix2 r 0)

/-- Minus infinity is below everything. -/
theorem bot_le (b : EReal) : Spec.bot ≤ b := by
  rw [show Spec.bot = (⊥ : EReal) from by simp [Spec.bot, Ideal.ofBits, Ideal.ieee]]
  exact _root_.bot_le

/-- A running maximum from minus infinity is at most `b` exactly when every term is. -/
theorem fold_le {ι : Type} (s : Finset ι) (f : ι → EReal) (b : EReal) : s.fold max Spec.bot f ≤ b ↔ ∀ x ∈ s, f x ≤ b := by
  rw [Finset.fold_max_le]
  exact ⟨fun h => h.2, fun h => ⟨bot_le b, h⟩⟩

/-- An absolute value is not negative. -/
theorem abs_nonneg (x : EReal) : 0 ≤ Spec.abs x := by
  show (0 : EReal) ≤ max x (-x)
  rcases le_total 0 x with h | h
  · exact le_max_of_le_left h
  · exact le_max_of_le_right (by rw [EReal.neg_nonneg]; exact h)

/-- The windows' index maps. -/
theorem idx : ∀ t : Fin cfg1.N, win1_0.index t = ![0, 0] ∧ win1_1.index t = ![t.val, 0] ∧ win1_2.index t = ![0, 0]
    ∧ win1_3.index t = ![0, t.val] ∧ win1_4.index t = ![0, 0] :=
  (by decide +kernel : ∀ t : Fin grid1.N, _)

variable (V : (c : Dev nD) → (b : Ref sig .tc) → Buf (Elt Ideal) ((c : Thread nD τ).loc b))

/-- One element of the block that point `t` computes. -/
theorem blk (c : Dev nD) (t : Fin cfg1.N) (r : Fin 256) (k : Fin 256) :
    k1_pay1 (iblk1 V c 0 t) (iblk1 V c 1 t) (View.ld (iblk1 V c 2 t) (Rect.unit ![0, 0] ![256, 1] inb_S256x128_S256x1_0_0)) (ix2 r k)
      = prod (V c main_v2_1) (V c main_arg1) (V c main_v2_2) r ⟨t.val * 256 + k.val, by have : t.val < 28 := t.isLt; omega⟩ := by
  pointwise [k1_pay1, prod]
  blk_point [iblk1, idx t]

/-- The product's array. -/
theorem dx (c : Dev nD) : (dat1 V c).arrAt 3 cfg1.N
    = fun i : S256x7168.Idx => prod (V c main_v2_1) (V c main_arg1) (V c main_v2_2) (i 0) (i 1) := by
  refine (dat1 V c).arrAt_eq_of_covers 3 _ (by decide +kernel) fun t _ y => ?_
  blk_simp
  have key : k1_pay1 (iblk1 V c 0 t) (iblk1 V c 1 t) (View.ld (iblk1 V c 2 t) (Rect.unit ![0, 0] ![256, 1] inb_S256x128_S256x1_0_0)) y
      = prod (V c main_v2_1) (V c main_arg1) (V c main_v2_2) (((cfg1.win 3).blk t).view.emb y 0) (((cfg1.win 3).blk t).view.emb y 1) := by
    refine Eq.trans (congrArg _ (eq_ix2 (y : S256x256.Idx))) ((blk V c t (y 0) (y 1)).trans ?_)
    unfold prod
    blk_point [idx t]
  rw [after1_3]
  by_cases h0 : t.val % 28 = 0
  · rw [outsAt1_A V c t h0]
    frame_out
    exact key
  · rw [outsAt1_B V c t h0]
    frame_out
    exact key

/-- One lane of the accumulated maximum after a point that adds to `a`. -/
theorem lane_le (c : Dev nD) (t : Fin cfg1.N) (a : FVec Ideal S1x128 .f32) (l : Fin 128) (b : EReal) :
    k1_pay3 (iblk1 V c 0 t) (iblk1 V c 1 t) (View.ld (iblk1 V c 2 t) (Rect.unit ![0, 0] ![256, 1] inb_S256x128_S256x1_0_0)) a (ix2 0 l) ≤ b
      ↔ a (ix2 0 l) ≤ b ∧ ∀ (r : Fin 256) (d : Fin 7168), d.val / 256 = t.val → d.val % 128 = l.val →
        Spec.abs (prod (V c main_v2_1) (V c main_arg1) (V c main_v2_2) r d) ≤ b := by
  have e := blk V c t
  generalize iblk1 V c 0 t = x0 at e ⊢
  generalize iblk1 V c 1 t = x1 at e ⊢
  generalize View.ld (iblk1 V c 2 t) (Rect.unit ![0, 0] ![256, 1] inb_S256x128_S256x1_0_0) = x2 at e ⊢
  unfold k1_pay3
  generalize k1_pay1 x0 x1 x2 = p at e ⊢
  pointwise []
  simp only [e]
  rw [max_le_iff, fold_le]
  simp only [fold_le, Finset.mem_univ, true_implies]
  refine and_congr_right fun _ => ⟨fun h r d hd hl => ?_, fun h q r => h r _ ?_ ?_⟩
  · have hq := h ⟨d.val % 256 / 128, by omega⟩ r
    rwa [show (⟨t.val * 256 + (d.val % 256 / 128 * 128 + l.val), by omega⟩ : Fin 7168) = d from Fin.ext (by simp only; omega)] at hq
  · simp only; omega
  · simp only; omega

/-- The accumulated maximum after point `n`: at most `b` exactly when 0 and every product of the lane so far is. -/
theorem acc_le (c : Dev nD) (l : Fin 128) (b : EReal) : ∀ (n : ℕ) (h : n < cfg1.N),
    (outsAt1 V c n h).2 (ix2 0 l) ≤ b ↔ 0 ≤ b ∧ ∀ (r : Fin 256) (d : Fin 7168), d.val / 256 ≤ n → d.val % 128 = l.val →
        Spec.abs (prod (V c main_v2_1) (V c main_arg1) (V c main_v2_2) r d) ≤ b
  | 0, h => by
    rw [outsAt1_A V c ⟨0, h⟩ (Nat.zero_mod _)]
    frame_out
    refine (lane_le V c ⟨0, h⟩ _ l b).trans ?_
    refine and_congr ?_ ⟨fun h r d hd => h r d (by simpa using hd), fun h r d hd => h r d hd.le⟩
    pointwise [k1_pay2]
  | n + 1, h => by
    have ih := acc_le c l b n (Nat.lt_of_succ_lt h)
    have hN : n + 1 < 28 := h
    rw [outsAt1_B V c ⟨n + 1, h⟩ (by show ¬ (n + 1) % 28 = 0; omega)]
    frame_out
    refine (lane_le V c ⟨n + 1, h⟩ _ l b).trans ?_
    simp only [Nat.add_sub_cancel]
    rw [ih, and_assoc]
    refine and_congr_right fun _ => ⟨fun h r d hd hl => ?_, fun h => ⟨fun r d hd hl => h r d (by omega) hl, fun r d hd hl => h r d hd.le hl⟩⟩
    rcases Nat.lt_or_ge (d.val / 256) (n + 1) with h' | h'
    · exact h.1 r d (by omega) hl
    · exact h.2 r d (show d.val / 256 = n + 1 by omega) hl

/-- The maximum's array: what the last point, `n = 27`, leaves. -/
theorem amax (c : Dev nD) (n : ℕ) (h : n < cfg1.N) (e : n = 27) : (dat1 V c).arrAt 4 cfg1.N = (outsAt1 V c n h).2 := by
  refine (dat1 V c).arrAt_eq_of_covers 4 _ (by decide +kernel) fun t hf y => ?_
  have ht : t.val = n := by
    have := (flush1_4 t).mp hf
    have : t.val < 28 := t.isLt
    omega
  clear e
  obtain ⟨t, hn⟩ := t
  obtain rfl : t = n := ht
  blk_simp
  rw [after1_4]
  have := idx ⟨t, hn⟩
  generalize (outsAt1 V c t h).2 = a
  blk_ext [this]

end Cert.KernelIdeal.Mm
end
-- ==== Proof.Out.lean ====
/-
  The kernel's third launch: what its two output arrays hold after the run, for any contents at its entry.
-/
module

public import proofs.«01_k».proof.Proof.Gen.KernelIdeal.Frame
public import proofs.«01_k».proof.Proof.Field
public import proofs.«01_k».proof.Proof.Spec
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Out

open Cert.KernelIdeal Cert.KernelIdeal.Gen

/-- The maximum of the 128 lanes of the accumulated maximum. -/
def top (a : FVec Ideal S1x128 .f32) : EReal := Finset.univ.fold max Spec.bot fun x : Fin 1 × Fin 128 => a (ix2 0 x.2)

/-- The block's maximum, the same in every element. -/
theorem pay3_apply (x : Vec Ideal S1x128 .f32) (j : S8x128.Idx) : k2_pay3 x j = top x := by
  pointwise [k2_pay3, top]

/-- The block's scaled maximum. -/
theorem pay4_apply (x : Vec Ideal S1x128 .f32) (j : S8x128.Idx) : k2_pay4 x j = top x * Ideal.ofBits .f32 0x37924925#32 := by
  rw [← pay3_apply x j]
  pointwise [k2_pay4]

/-- The scales' vector, written over the exponent field. -/
theorem pay9_eq (x : Vec Ideal S1x128 .f32) : k2_pay9 (k2_pay4 x) (k2_pay5 x) (k2_pay6 x) (k2_pay7 x)
    = bitcastToFloat .f32 (shli (addi (Pow2.vfield' (k2_pay4 x)) (broadcast S8x128 1#32)) (broadcast S8x128 23#32)) := rfl

/-- The inverse scales' vector, written over the exponent field. -/
theorem pay10_eq (x : Vec Ideal S1x128 .f32) : shli (k2_pay10 (k2_pay4 x) (k2_pay5 x) (k2_pay6 x) (k2_pay7 x)) k2_pay11
    = shli (subi (broadcast S8x128 253#32) (Pow2.vfield' (k2_pay4 x))) (broadcast S8x128 23#32) := rfl

/-- The block's scales. -/
theorem scale_apply (x : Vec Ideal S1x128 .f32) (j : S8x128.Idx) :
    k2_pay9 (k2_pay4 x) (k2_pay5 x) (k2_pay6 x) (k2_pay7 x) j = Spec.qscale (top x) := by
  rw [pay9_eq, Pow2.vscale_apply, pay4_apply]; rfl

/-- The block's codes. -/
theorem code_apply (v : Vec Ideal S256x1024 .f32) (x : Vec Ideal S1x128 .f32) (j : S256x1024.Idx) :
    k2_pay1 (k2_pay10 (k2_pay4 x) (k2_pay5 x) (k2_pay6 x) (k2_pay7 x)) k2_pay11 v j = Spec.qcode (v j) (top x) := by
  have h := Pow2.vinv_apply (k2_pay4 x) (ix2 0 0)
  rw [← pay10_eq, pay4_apply] at h
  unfold k2_pay1
  generalize shli (k2_pay10 (k2_pay4 x) (k2_pay5 x) (k2_pay6 x) (k2_pay7 x)) k2_pay11 = w at h ⊢
  pointwise [Spec.qcode, Spec.qexp] at h ⊢
  rw [h]

/-- The stacked block: scale above, maximum below. -/
theorem stack_apply (x : Vec Ideal S1x128 .f32) (j : S16x128.Idx) :
    k2_pay2 (k2_pay3 x) (k2_pay9 (k2_pay4 x) (k2_pay5 x) (k2_pay6 x) (k2_pay7 x)) j
      = if (j 0).val < 8 then Spec.qscale (top x) else top x := by
  have h := scale_apply x
  have h3 := pay3_apply x
  generalize k2_pay9 (k2_pay4 x) (k2_pay5 x) (k2_pay6 x) (k2_pay7 x) = w at h ⊢
  generalize k2_pay3 x = u at h3 ⊢
  pointwise [k2_pay2]
  simp only [h, h3, dite_eq_ite]

/-- The windows' index maps. -/
theorem idx : ∀ t : Fin cfg2.N, win2_0.index t = ![0, t.val] ∧ win2_1.index t = ![0, 0] ∧ win2_2.index t = ![0, t.val]
    ∧ win2_3.index t = ![0, 0] :=
  (by decide +kernel : ∀ t : Fin grid2.N, _)

variable (V : (c : Dev nD) → (b : Ref sig .tc) → Buf (Elt Ideal) ((c : Thread nD τ).loc b))

/-- The codes' array. -/
theorem codes (c : Dev nD) : (dat2 V c).arrAt 2 cfg2.N
    = fun i : S256x7168.Idx => Spec.qcode ((show FVec Ideal S256x7168 .f32 from V c main_v3_0) i) (top (V c main_v3_1)) := by
  refine (dat2 V c).arrAt_eq_of_covers 2 _ (by decide +kernel) fun t _ y => ?_
  blk_simp
  rw [after2_2]
  unfold_out out2_2
  frame_out
  rw [code_apply]
  unfold top
  blk_point [iblk2, idx t]

/-- The stacked array: the scale in rows 0 to 7, the maximum in rows 8 to 15. -/
theorem stack (c : Dev nD) : (dat2 V c).arrAt 3 cfg2.N
    = fun i : S16x128.Idx => if (i 0).val < 8 then Spec.qscale (top (V c main_v3_1)) else top (V c main_v3_1) := by
  refine (dat2 V c).arrAt_eq_of_covers 3 _ (by decide +kernel) fun t _ y => ?_
  blk_simp
  rw [after2_3]
  unfold_out out2_3
  frame_out
  rw [stack_apply]
  unfold top
  blk_point [iblk2, idx t]

end Cert.KernelIdeal.Out
end
-- ==== Proof.Arrays.lean ====
/-
  The kernel's three launches joined: each array at the program's end, as the problem's mathematics over the arguments.
-/
module

public import proofs.«01_k».proof.Proof.Gen.KernelIdeal.Frame
public import proofs.«01_k».proof.Proof.Rows
public import proofs.«01_k».proof.Proof.Mm
public import proofs.«01_k».proof.Proof.Out
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Arrays

open Cert.KernelIdeal Cert.KernelIdeal.Gen

variable (m : (ℓ : Loc nD τ sig) → Buf (Elt Ideal) ℓ) (ρ : Dev nD → PrngReg)

/-- The gradient as the launches take it: 256 rows. -/
abbrev X (c : Dev nD) : FVec Ideal S256x18432 .bf16 :=
  shapeCast S256x18432 (show FVec Ideal S2x128x18432 .bf16 from m ((c : Thread nD τ).loc main_arg0)) shapeCasts_S2x128x18432_S256x18432

/-- The weight's codes. -/
abbrev W (c : Dev nD) : FVec Ideal S7168x18432 .fp8e4m3 := m ((c : Thread nD τ).loc main_arg1)

/-- The weight's scales as the launches take them: one row. -/
abbrev S (c : Dev nD) : FVec Ideal S1x18432 .f32 :=
  shapeCast S1x18432 (show FVec Ideal S18432 .f32 from m ((c : Thread nD τ).loc main_arg2)) shapeCasts_S18432_S1x18432

/-- The first launch reads the gradient's rows, -/
theorem v0 (c : Dev nD) : V1 m ρ c main_v0 = X m c := by
  unfold_abbrev_sides
  after_results
  rfl

/-- and the weight's scales. -/
theorem v1 (c : Dev nD) : V1 m ρ c main_v1 = S m c := by
  unfold_abbrev_sides
  after_results
  rfl

/-- The gradient's codes. -/
theorem codes (c : Dev nD) : V2 m ρ c main_v2_0 = fun i : S256x18432.Idx => Spec.dyCode (X m c) (i 0) (i 1) := by
  rw [← v0 m ρ c]
  exact (W2_arr m ρ c 2).trans (Rows.codes (V1 m ρ) c)

/-- The product's left operand. -/
theorem lhs (c : Dev nD) : V2 m ρ c main_v2_1
    = fun i : S256x18432.Idx => Spec.dyCode (X m c) (i 0) (i 1) * S m c (ix2 0 (i 1)) := by
  rw [← v0 m ρ c, ← v1 m ρ c]
  exact (W2_arr m ρ c 3).trans (Rows.lhs (V1 m ρ) c)

/-- The rows' scales. -/
theorem scales (c : Dev nD) : V2 m ρ c main_v2_2 = fun i : S256x128.Idx => Spec.dyScale (X m c) (i 0) := by
  rw [← v0 m ρ c]
  exact (W2_arr m ρ c 4).trans (Rows.scales (V1 m ρ) c)

/-- The second launch reads the weight's codes as launched. -/
theorem arg1 (c : Dev nD) : V2 m ρ c main_arg1 = W m c := W2_args m ρ c main_arg1 (by decide)

/-- One element of the product: the weight scale multiplies the left operand instead of the weight. -/
theorem prod_eq (c : Dev nD) (r : Fin 256) (d : Fin 7168) :
    Mm.prod (V2 m ρ c main_v2_1) (V2 m ρ c main_arg1) (V2 m ρ c main_v2_2) r d = Spec.dx (X m c) (W m c) (S m c) r d := by
  rw [lhs, arg1, scales]
  unfold Mm.prod Spec.dx
  refine congrArg (· * Spec.dyScale (X m c) r) (Finset.sum_congr rfl fun k _ => ?_)
  show Spec.dyCode (X m c) r k * S m c (ix2 0 k) * W m c (ix2 d k) = Spec.dyCode (X m c) r k * (W m c (ix2 d k) * S m c (ix2 0 k))
  rw [mul_assoc]
  exact congrArg (Spec.dyCode (X m c) r k * ·) (mul_comm _ _)

/-- The product. -/
theorem dx (c : Dev nD) : V3 m ρ c main_v3_0 = fun i : S256x7168.Idx => Spec.dx (X m c) (W m c) (S m c) (i 0) (i 1) := by
  refine ((W3_arr m ρ c 3).trans (Mm.dx (V2 m ρ) c)).trans (funext fun i => ?_)
  exact prod_eq m ρ c _ _

/-- The maximum over the lanes is the maximum over the whole product, for any vector whose lanes have the lanes' maxima. -/
theorem top_of (X : FVec Ideal S256x18432 .bf16) (W : FVec Ideal S7168x18432 .fp8e4m3) (S : FVec Ideal S1x18432 .f32)
    (a : FVec Ideal S1x128 .f32)
    (h : ∀ (l : Fin 128) (b : EReal), a (ix2 0 l) ≤ b ↔ 0 ≤ b ∧ ∀ (r : Fin 256) (d : Fin 7168), d.val / 256 ≤ 27 → d.val % 128 = l.val →
        Spec.abs (Spec.dx X W S r d) ≤ b) : Out.top a = Spec.dxAmax X W S := by
  refine eq_of_forall_ge_iff fun b => ?_
  unfold Out.top Spec.dxAmax
  rw [Mm.fold_le, Mm.fold_le]
  constructor
  · intro hb p _
    exact ((h ⟨p.2.val % 128, Nat.mod_lt _ (by decide)⟩ b).mp (hb (0, _) (Finset.mem_univ _))).2 p.1 p.2 (by omega) rfl
  · intro hb x _
    refine (h x.2 b).mpr ⟨(Mm.abs_nonneg _).trans (hb (0, 0) (Finset.mem_univ _)), fun r d _ _ => hb (r, d) (Finset.mem_univ _)⟩

/-- What the third launch reads as the maximum of all lanes is the product's absolute maximum. -/
theorem top (c : Dev nD) : Out.top (V3 m ρ c main_v3_1) = Spec.dxAmax (X m c) (W m c) (S m c) := by
  have key : ∀ (n : ℕ) (h : n < cfg1.N), n = 27 → Out.top (V3 m ρ c main_v3_1) = Spec.dxAmax (X m c) (W m c) (S m c) := by
    intro n h e
    have hv : V3 m ρ c main_v3_1 = (outsAt1 (V2 m ρ) c n h).2 := (W3_arr m ρ c 4).trans (Mm.amax (V2 m ρ) c n h e)
    rw [hv]
    refine top_of _ _ _ _ fun l b => ?_
    refine (Mm.acc_le (V2 m ρ) c l b n h).trans ?_
    subst e
    exact and_congr_right fun _ => forall_congr' fun r => forall_congr' fun d => imp_congr_right fun _ => imp_congr_right fun _ =>
      Iff.of_eq (congrArg (fun z => Spec.abs z ≤ b) (prod_eq m ρ c r d))
  exact key 27 (by decide +kernel) rfl

/-- The product's codes. -/
theorem dxCodes (c : Dev nD) : W4 m ρ c main_v4_0 = fun i : S256x7168.Idx => Spec.dxCode (X m c) (W m c) (S m c) (i 0) (i 1) := by
  refine ((W4_arr m ρ c 2).trans (Out.codes (V3 m ρ) c)).trans ?_
  rw [top, dx]
  rfl

/-- The stacked scale and maximum. -/
theorem stack (c : Dev nD) : W4 m ρ c main_v4_1
    = fun i : S16x128.Idx => if (i 0).val < 8 then Spec.dxScale (X m c) (W m c) (S m c) else Spec.dxAmax (X m c) (W m c) (S m c) := by
  refine ((W4_arr m ρ c 3).trans (Out.stack (V3 m ρ) c)).trans ?_
  rw [top]
  rfl

/-- The gradient's codes are still there at the end, -/
theorem codes_end (c : Dev nD) : W4 m ρ c main_v2_0 = fun i : S256x18432.Idx => Spec.dyCode (X m c) (i 0) (i 1) :=
  (W4_of m ρ c main_v2_0 (by decide)).trans ((W3_of m ρ c main_v2_0 (by decide)).trans (codes m ρ c))

/-- and so are the rows' scales. -/
theorem scales_end (c : Dev nD) : W4 m ρ c main_v2_2 = fun i : S256x128.Idx => Spec.dyScale (X m c) (i 0) :=
  (W4_of m ρ c main_v2_2 (by decide)).trans ((W3_of m ρ c main_v2_2 (by decide)).trans (scales m ρ c))

/-- Result 1: the product's codes. -/
theorem res1 (c : Dev nD) : W5 m ρ c main_v5 = shapeCast S2x128x7168
    (fun i : S256x7168.Idx => Spec.dxCode (X m c) (W m c) (S m c) (i 0) (i 1)) shapeCasts_S256x7168_S2x128x7168 := by
  rw [← dxCodes m ρ c]
  unfold_abbrev_sides
  after_results
  rfl

/-- Result 2: the product's scale. -/
theorem res2 (c : Dev nD) : W5 m ρ c main_v7 = fun _ : S_.Idx => Spec.dxScale (X m c) (W m c) (S m c) := by
  have h : W5 m ρ c main_v7 = shapeCast S_ (extractStridedSlice S1x1 ![0, 0] (W4 m ρ c main_v4_1) slices_S16x128_S1x1_0_0) shapeCasts_S1x1_S_ := by
    unfold_abbrev_sides
    after_results
    rfl
  rw [h, stack]
  funext j
  pointwise []

/-- Result 3: the product's absolute maximum. -/
theorem res3 (c : Dev nD) : W5 m ρ c main_v9 = fun _ : S_.Idx => Spec.dxAmax (X m c) (W m c) (S m c) := by
  have h : W5 m ρ c main_v9 = shapeCast S_ (extractStridedSlice S1x1 ![8, 0] (W4 m ρ c main_v4_1) slices_S16x128_S1x1_8_0) shapeCasts_S1x1_S_ := by
    unfold_abbrev_sides
    after_results
    rfl
  rw [h, stack]
  funext j
  pointwise []

/-- Result 4: the gradient's codes. -/
theorem res4 (c : Dev nD) : W5 m ρ c main_v10 = shapeCast S2x128x18432
    (fun i : S256x18432.Idx => Spec.dyCode (X m c) (i 0) (i 1)) shapeCasts_S256x18432_S2x128x18432 := by
  rw [← codes_end m ρ c]
  unfold_abbrev_sides
  after_results
  rfl

/-- The row among 256 that a pair (batch, row) names. -/
def rowOf (i : S2x128.Idx) : Fin 256 :=
  ⟨(i 0).val * 128 + (i 1).val, by
    have h0 : (i 0).val < 2 := (i 0).isLt
    have h1 : (i 1).val < 128 := (i 1).isLt
    omega⟩

/-- Result 5: the rows' scales. -/
theorem res5 (c : Dev nD) : W5 m ρ c main_v13 = fun i : S2x128.Idx => Spec.dyScale (X m c) (rowOf i) := by
  have h : W5 m ρ c main_v13 = shapeCast S2x128 (shapeCast S256 (extractStridedSlice S256x1 ![0, 0] (W4 m ρ c main_v2_2) slices_S256x128_S256x1_0_0) shapeCasts_S256x1_S256) shapeCasts_S256_S2x128 := by
    unfold_abbrev_sides
    after_results
    rfl
  rw [h, scales_end]
  funext j
  pointwise [rowOf]

end Cert.KernelIdeal.Arrays
end
-- ==== Proof.KernelRun.lean ====
/-
  The kernel's run: it terminates, its five results are the problem's mathematics, and its arguments are unchanged.
-/
module

public import proofs.«01_k».proof.Proof.Gen.KernelIdeal.Frame
public import proofs.«01_k».proof.Proof.Arrays

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.KernelIdeal.Run

open Cert.KernelIdeal Cert.KernelIdeal.Gen Cert.KernelIdeal.Arrays

-- the launch theorem's implicit arguments are found by unifying its conclusion with this one, which takes unfolding plain
-- definitions in a metavariable's type
set_option backward.isDefEq.respectTransparency.types false in
/-- Every fair run ends with each buffer of the program at the contents that the last host stretch leaves. -/
theorem ends (m : (ℓ : Loc nD τ sig) → Buf (Elt Ideal) ℓ) (ρ : Dev nD → PrngReg) :
    θ_run defs (onTc (τ := τ) (main (F := Ideal))) ⟨m, fun _ => 0, ρ⟩ (fun r => ∀ c : Dev nD, ∀ b ∈ Pipeline.ucRefs τ sig,
      r.2.mem (((c : Thread nD τ)).1, b) = W5 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => fun c => h c)

/-- The kernel's run, its results and its arguments named. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v5) = shapeCast S2x128x7168
          (fun i : S256x7168.Idx => Spec.dxCode (X m c) (W m c) (S m c) (i 0) (i 1)) shapeCasts_S256x7168_S2x128x7168
      ∧ r.2.mem ((c.tc : Thread nD τ).loc main_v7) = (fun _ : S_.Idx => Spec.dxScale (X m c) (W m c) (S m c))
      ∧ r.2.mem ((c.tc : Thread nD τ).loc main_v9) = (fun _ : S_.Idx => Spec.dxAmax (X m c) (W m c) (S m c))
      ∧ r.2.mem ((c.tc : Thread nD τ).loc main_v10) = shapeCast S2x128x18432
          (fun i : S256x18432.Idx => Spec.dyCode (X m c) (i 0) (i 1)) shapeCasts_S256x18432_S2x128x18432
      ∧ r.2.mem ((c.tc : Thread nD τ).loc main_v13) = (fun i : S2x128.Idx => Spec.dyScale (X m c) (rowOf i))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_v5 (by decide))).trans (res1 m ρ c),
     (h c _ (mem_uc main_v7 (by decide))).trans (res2 m ρ c),
     (h c _ (mem_uc main_v9 (by decide))).trans (res3 m ρ c),
     (h c _ (mem_uc main_v10 (by decide))).trans (res4 m ρ c),
     (h c _ (mem_uc main_v13 (by decide))).trans (res5 m ρ c),
     (h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c)⟩) (ends m ρ)

end Cert.KernelIdeal.Run
end
-- ==== Proof.Ref.lean ====
/-
  The reference: what its vectors hold, element by element.
-/
module

public import proofs.«01_k».proof.Proof.Gen.ReferenceIdeal.Frame
public import proofs.«01_k».proof.Proof.Spec
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.ReferenceIdeal.Value

open Cert.ReferenceIdeal Cert.ReferenceIdeal.Gen

/-- The exponents of a vector, as the reference writes them. -/
def vexpo {s : Shape} (v : FVec Ideal s .f32) : FVec Ideal s .f32 :=
  select (cmpf .olt v (broadcast s (Scalar.ofBits (F := Ideal) .f32 0x00800000#32))) (broadcast s (Scalar.ofBits (F := Ideal) .f32 0x00000000#32))
    (minimumf (addf (floor (divf (log v) (log (broadcast s (Scalar.ofBits (F := Ideal) .f32 0x40000000#32)))))
      (broadcast s (Scalar.ofBits (F := Ideal) .f32 0x3F800000#32))) (broadcast s (Scalar.ofBits (F := Ideal) .f32 0x42FC0000#32)))

/-- One element of them. -/
theorem vexpo_apply {s : Shape} (v : FVec Ideal s .f32) (j : s.Idx) : vexpo v j = Pow2.expo (v j) := by
  unfold vexpo Pow2.expo
  pointwise []

/-- The rows' maxima. -/
def vrow (x : Vec Ideal S256x18432 .bf16) : FVec Ideal S256x1 .f32 :=
  shapeCast S256x1 (multiReduction .maximumf [1] S256 (absf (k0_pay1 x)) 0xFF800000#32 reduces_S256x18432_S256 (.inl rfl) rfl) shapeCasts_S256_S256x1

/-- One element of them. -/
theorem vrow_apply (x : Vec Ideal S256x18432 .bf16) (j : S256x1.Idx) : vrow x j = Spec.rowMax (fun k : Fin 18432 => x (ix2 (j 0) k)) := by
  pointwise [vrow, k0_pay1, Spec.rowMax]

/-- A vector times the quantiser's constant. -/
def vtimes {s : Shape} (v : FVec Ideal s .f32) : FVec Ideal s .f32 := mulf v (broadcast s (Scalar.ofBits (F := Ideal) .f32 0x37924925#32))

/-- One element of it. -/
theorem vtimes_apply {s : Shape} (v : FVec Ideal s .f32) (j : s.Idx) : vtimes v j = v j * Ideal.ofBits .f32 0x37924925#32 := by
  pointwise [vtimes]

/-- A vector's powers of two, element by element. -/
theorem exp2_apply {s : Shape} (v : FVec Ideal s .f32) (j : s.Idx) : exp2 v j = Ideal.exp2 (v j) := rfl

/-- A vector's inverse powers of two. -/
def vinv {s : Shape} (v : FVec Ideal s .f32) : FVec Ideal s .f32 := exp2 (subf (broadcast s (Scalar.ofBits (F := Ideal) .f32 0x00000000#32)) v)

/-- One element of them. -/
theorem vinv_apply {s : Shape} (v : FVec Ideal s .f32) (j : s.Idx) : vinv v j = Ideal.exp2 (0 - v j) := by
  unfold vinv
  rw [exp2_apply]
  refine congrArg Ideal.exp2 ?_
  pointwise []

/-- The rows' exponents are those of the rows' maxima. -/
theorem pay2_eq (x : Vec Ideal S256x18432 .bf16) : k0_pay2 (F := Ideal) x = vexpo (vtimes (vrow x)) := rfl

/-- The rows' exponents. -/
theorem pay2_apply (x : Vec Ideal S256x18432 .bf16) (j : S256x1.Idx) : k0_pay2 (F := Ideal) x j = Spec.qexp (Spec.amaxX x (j 0)) := by
  rw [pay2_eq, vexpo_apply, vtimes_apply, vrow_apply]
  unfold Spec.qexp Spec.amaxX
  exact Eq.refl _

/-- The rows' scales. -/
theorem scale_apply (x : Vec Ideal S256x18432 .bf16) (j : S256x1.Idx) : k0_pay3 (F := Ideal) x j = Spec.dyScale x (j 0) := by
  unfold k0_pay3 Spec.dyScale Spec.qscale
  rw [exp2_apply, pay2_apply]

/-- The gradient's codes. -/
theorem code_apply (x : Vec Ideal S256x18432 .bf16) (j : S256x18432.Idx) : k0_pay4 (F := Ideal) x j = Spec.dyCode x (j 0) (j 1) := by
  have h : vinv (k0_pay2 (F := Ideal) x) (ix2 (j 0) 0) = Ideal.exp2 (0 - Spec.qexp (Spec.amaxX x (j 0))) := by
    rw [vinv_apply, pay2_apply]
    exact Eq.refl _
  unfold Spec.dyCode Spec.qcode
  generalize Ideal.exp2 (0 - Spec.qexp (Spec.amaxX x (j 0))) = e at h ⊢
  have u : k0_pay4 (F := Ideal) x = truncf .fp8e5m2 (minimumf (broadcast S256x18432 (Scalar.ofBits (F := Ideal) .f32 0x47600000#32))
      (maximumf (broadcast S256x18432 (Scalar.ofBits (F := Ideal) .f32 0xC7600000#32))
        (mulf (k0_pay1 x) (broadcastTo S256x18432 (vinv (k0_pay2 x)) broadcasts_S256x1_S256x18432)))) bitsLt_fp8e5m2_f32 := rfl
  rw [u]
  generalize vinv (k0_pay2 (F := Ideal) x) = z at h ⊢
  subst h
  pointwise [k0_pay1]

/-- The product. -/
theorem dx_apply (x : Vec Ideal S256x18432 .bf16) (w : Vec Ideal S7168x18432 .fp8e4m3) (s : Vec Ideal S1x18432 .f32) (j : S256x7168.Idx) :
    k0_pay7 (F := Ideal) (k0_pay3 x) (k0_pay4 x) (k0_pay5 w) (k0_pay6 s) j = Spec.dx x w s (j 0) (j 1) := by
  have h := scale_apply x
  have h4 := code_apply x
  generalize k0_pay3 x = p at h ⊢
  generalize k0_pay4 x = q at h4 ⊢
  pointwise [k0_pay7, k0_pay5, k0_pay6, h, h4, Spec.dx]

/-- The product's absolute maximum. -/
theorem amax_apply (x : Vec Ideal S256x18432 .bf16) (w : Vec Ideal S7168x18432 .fp8e4m3) (s : Vec Ideal S1x18432 .f32) (j : S1x1.Idx) :
    k0_pay8 (F := Ideal) (k0_pay3 x) (k0_pay4 x) (k0_pay5 w) (k0_pay6 s) j = Spec.dxAmax x w s := by
  have h := dx_apply x w s
  unfold k0_pay8
  generalize k0_pay7 (k0_pay3 x) (k0_pay4 x) (k0_pay5 w) (k0_pay6 s) = p at h ⊢
  pointwise [h, Spec.dxAmax]

/-- The product's exponent is that of its maximum times the constant. -/
theorem pay9_eq (v21 : FVec Ideal S256x1 .f32) (v31 : FVec Ideal S256x18432 .fp8e5m2) (v35 : FVec Ideal S7168x18432 .bf16) (v37 : FVec Ideal S1x18432 .f32) :
    k0_pay9 (F := Ideal) v21 v31 v35 v37
      = vexpo (vtimes (k0_pay8 v21 v31 v35 v37)) := rfl

/-- The product's exponent. -/
theorem pay9_apply (x : Vec Ideal S256x18432 .bf16) (w : Vec Ideal S7168x18432 .fp8e4m3) (s : Vec Ideal S1x18432 .f32) (j : S1x1.Idx) :
    k0_pay9 (F := Ideal) (k0_pay3 x) (k0_pay4 x) (k0_pay5 w) (k0_pay6 s) j = Spec.qexp (Spec.dxAmax x w s) := by
  rw [pay9_eq, vexpo_apply, vtimes_apply, amax_apply]
  unfold Spec.qexp
  exact Eq.refl _

/-- The product's scale. -/
theorem dxScale_apply (x : Vec Ideal S256x18432 .bf16) (w : Vec Ideal S7168x18432 .fp8e4m3) (s : Vec Ideal S1x18432 .f32) (j : S1x1.Idx) :
    k0_pay10 (F := Ideal) (k0_pay3 x) (k0_pay4 x) (k0_pay5 w) (k0_pay6 s) j = Spec.dxScale x w s := by
  unfold k0_pay10 Spec.dxScale Spec.qscale
  rw [exp2_apply, pay9_apply]

/-- The product's codes. -/
theorem dxCode_apply (x : Vec Ideal S256x18432 .bf16) (w : Vec Ideal S7168x18432 .fp8e4m3) (s : Vec Ideal S1x18432 .f32) (j : S256x7168.Idx) :
    k0_pay11 (F := Ideal) (k0_pay3 x) (k0_pay4 x) (k0_pay5 w) (k0_pay6 s) j = Spec.dxCode x w s (j 0) (j 1) := by
  have h : vinv (k0_pay9 (F := Ideal) (k0_pay3 x) (k0_pay4 x) (k0_pay5 w) (k0_pay6 s)) (ix2 0 0) = Ideal.exp2 (0 - Spec.qexp (Spec.dxAmax x w s)) := by
    rw [vinv_apply, pay9_apply]
  have h7 := dx_apply x w s j
  unfold Spec.dxCode Spec.qcode
  generalize Ideal.exp2 (0 - Spec.qexp (Spec.dxAmax x w s)) = e at h ⊢
  generalize Spec.dx x w s (j 0) (j 1) = d at h7 ⊢
  have u : ∀ v21 v31 v35 v37, k0_pay11 (F := Ideal) v21 v31 v35 v37 = truncf .fp8e5m2 (minimumf (broadcast S256x7168 (Scalar.ofBits (F := Ideal) .f32 0x47600000#32))
      (maximumf (broadcast S256x7168 (Scalar.ofBits (F := Ideal) .f32 0xC7600000#32))
        (mulf (k0_pay7 v21 v31 v35 v37) (broadcastTo S256x7168 (vinv (k0_pay9 v21 v31 v35 v37)) broadcasts_S1x1_S256x7168)))) bitsLt_fp8e5m2_f32 :=
    fun _ _ _ _ => rfl
  rw [u]
  generalize vinv (k0_pay9 (F := Ideal) (k0_pay3 x) (k0_pay4 x) (k0_pay5 w) (k0_pay6 s)) = z at h ⊢
  generalize k0_pay7 (F := Ideal) (k0_pay3 x) (k0_pay4 x) (k0_pay5 w) (k0_pay6 s) = q at h7 ⊢
  subst h h7
  pointwise []

end Cert.ReferenceIdeal.Value
end
-- ==== Proof.RefRun.lean ====
/-
  The reference's run: it terminates, its five results are the problem's mathematics, and its arguments are unchanged.
-/
module

public import proofs.«01_k».proof.Proof.Gen.ReferenceIdeal.Frame
public import proofs.«01_k».proof.Proof.Ref
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ReferenceIdeal.Run

open Cert.ReferenceIdeal Cert.ReferenceIdeal.Gen Cert.ReferenceIdeal.Value

variable (m : (ℓ : Loc nD τ sig) → Buf (Elt Ideal) ℓ) (ρ : Dev nD → PrngReg)

/-- The gradient as 256 rows. -/
abbrev X (c : Dev nD) : FVec Ideal S256x18432 .bf16 :=
  shapeCast S256x18432 (show FVec Ideal S2x128x18432 .bf16 from m ((c : Thread nD τ).loc main_arg0)) shapeCasts_S2x128x18432_S256x18432

/-- The weight's codes. -/
abbrev W (c : Dev nD) : FVec Ideal S7168x18432 .fp8e4m3 := m ((c : Thread nD τ).loc main_arg1)

/-- The weight's scales as one row. -/
abbrev S (c : Dev nD) : FVec Ideal S1x18432 .f32 :=
  shapeCast S1x18432 (show FVec Ideal S18432 .f32 from m ((c : Thread nD τ).loc main_arg2)) shapeCasts_S18432_S1x18432

/-- The row among 256 that a pair (batch, row) names. -/
def rowOf (i : S2x128.Idx) : Fin 256 :=
  ⟨(i 0).val * 128 + (i 1).val, by
    have h0 : (i 0).val < 2 := (i 0).isLt
    have h1 : (i 1).val < 128 := (i 1).isLt
    omega⟩

/-- The windows' index maps: every block is its whole array. -/
theorem idx : ∀ t : Fin cfg0.N, win0_0.index t = ![0, 0] ∧ win0_1.index t = ![0, 0] ∧ win0_2.index t = ![0, 0] :=
  (by decide +kernel : ∀ t : Fin grid0.N, _)

/-- The region's three blocks are its three operands, whole. -/
theorem blk0 (c : Dev nD) : iblk m c 0 t0_0 = X m c := by
  funext y
  blk_simp [iblk]
  entry_read
  blk_ext [idx t0_0]

/-- The weight's block. -/
theorem blk1 (c : Dev nD) : iblk m c 1 t0_0 = W m c := by
  funext y
  blk_simp [iblk]
  entry_read
  blk_ext [idx t0_0]

/-- The weight scales' block. -/
theorem blk2 (c : Dev nD) : iblk m c 2 t0_0 = S m c := by
  funext y
  blk_simp [iblk]
  entry_read
  blk_ext [idx t0_0]

/-- The product's codes. -/
theorem arr3 (c : Dev nD) : (dats m 0 c).arrAt 3 (cfgs 0).N
    = fun i : S256x7168.Idx => Spec.dxCode (X m c) (W m c) (S m c) (i 0) (i 1) := by
  refine (dats m 0 c).arrAt_eq_of_after_last 3 t0_0 (by decide +kernel) _ fun j => ?_
  blk_simp
  rw [after0_3, blk0, blk1, blk2]
  unfold_out out0_3
  frame_out
  exact dxCode_apply _ _ _ _

/-- The product's scale. -/
theorem arr4 (c : Dev nD) : (dats m 0 c).arrAt 4 (cfgs 0).N = fun _ : S1x1.Idx => Spec.dxScale (X m c) (W m c) (S m c) := by
  refine (dats m 0 c).arrAt_eq_of_after_last 4 t0_0 (by decide +kernel) _ fun j => ?_
  blk_simp
  rw [after0_4, blk0, blk1, blk2]
  unfold_out out0_4
  frame_out
  exact dxScale_apply _ _ _ _

/-- The product's absolute maximum. -/
theorem arr5 (c : Dev nD) : (dats m 0 c).arrAt 5 (cfgs 0).N = fun _ : S1x1.Idx => Spec.dxAmax (X m c) (W m c) (S m c) := by
  refine (dats m 0 c).arrAt_eq_of_after_last 5 t0_0 (by decide +kernel) _ fun j => ?_
  blk_simp
  rw [after0_5, blk0, blk1, blk2]
  unfold_out out0_5
  frame_out
  exact amax_apply _ _ _ _

/-- The gradient's codes. -/
theorem arr6 (c : Dev nD) : (dats m 0 c).arrAt 6 (cfgs 0).N = fun i : S256x18432.Idx => Spec.dyCode (X m c) (i 0) (i 1) := by
  refine (dats m 0 c).arrAt_eq_of_after_last 6 t0_0 (by decide +kernel) _ fun j => ?_
  blk_simp
  rw [after0_6, blk0, blk1, blk2]
  unfold_out out0_6
  frame_out
  exact code_apply _ _

/-- The rows' scales. -/
theorem arr7 (c : Dev nD) : (dats m 0 c).arrAt 7 (cfgs 0).N = fun i : S256x1.Idx => Spec.dyScale (X m c) (i 0) := by
  refine (dats m 0 c).arrAt_eq_of_after_last 7 t0_0 (by decide +kernel) _ fun j => ?_
  blk_simp
  rw [after0_7, blk0, blk1, blk2]
  unfold_out out0_7
  frame_out
  exact scale_apply _ _

/-- The buffers when the region ends. -/
def Z (c : Dev nD) : Valuation τ sig (Elt Ideal) :=
  Pipeline.withArrays (cfgs 0).spec c (V0 m c) fun w => (dats m 0 c).arrAt w (cfgs 0).N

/-- Each array of the region is there what the run leaves. -/
theorem Z_arr (c : Dev nD) (w : Fin cfg0.W) : Z m c (Proc.devRef .tc (Pipeline.arrRef spec0 w)) = (dats m 0 c).arrAt w (cfgs 0).N := by
  unfold Z; exact Pipeline.withArrays_arr spec0 launch0.win.arr_inj c _ _ w

/-- Result 1: the product's codes. -/
theorem res1 (c : Dev nD) : Pipeline.afterTail₀ cfgs (dats m) 0 (V0 m) [hostOps1] c main_v3 = shapeCast S2x128x7168
    (fun i : S256x7168.Idx => Spec.dxCode (X m c) (W m c) (S m c) (i 0) (i 1)) shapeCasts_S256x7168_S2x128x7168 := by
  have h : Pipeline.afterTail₀ cfgs (dats m) 0 (V0 m) [hostOps1] c main_v3 = shapeCast S2x128x7168 (Z m c main_v2_0) shapeCasts_S256x7168_S2x128x7168 := by
    change StableHlo.after (List.flatten [hostOps1]) (Z m c) (Proc.devRef .tc main_v3) = _
    generalize Z m c = z
    simp only [List.flatten_cons, List.flatten_nil, List.append_nil]
    unfold_abbrev_sides
    after_results
    rfl
  rw [h, (Z_arr m c 3).trans (arr3 m c)]

/-- Result 2: the product's scale. -/
theorem res2 (c : Dev nD) : Pipeline.afterTail₀ cfgs (dats m) 0 (V0 m) [hostOps1] c main_v4 = fun _ : S_.Idx => Spec.dxScale (X m c) (W m c) (S m c) := by
  have h : Pipeline.afterTail₀ cfgs (dats m) 0 (V0 m) [hostOps1] c main_v4 = shapeCast S_ (Z m c main_v2_1) shapeCasts_S1x1_S_ := by
    change StableHlo.after (List.flatten [hostOps1]) (Z m c) (Proc.devRef .tc main_v4) = _
    generalize Z m c = z
    simp only [List.flatten_cons, List.flatten_nil, List.append_nil]
    unfold_abbrev_sides
    after_results
    rfl
  rw [h, (Z_arr m c 4).trans (arr4 m c)]
  funext j
  pointwise []

/-- Result 3: the product's absolute maximum. -/
theorem res3 (c : Dev nD) : Pipeline.afterTail₀ cfgs (dats m) 0 (V0 m) [hostOps1] c main_v5 = fun _ : S_.Idx => Spec.dxAmax (X m c) (W m c) (S m c) := by
  have h : Pipeline.afterTail₀ cfgs (dats m) 0 (V0 m) [hostOps1] c main_v5 = shapeCast S_ (Z m c main_v2_2) shapeCasts_S1x1_S_ := by
    change StableHlo.after (List.flatten [hostOps1]) (Z m c) (Proc.devRef .tc main_v5) = _
    generalize Z m c = z
    simp only [List.flatten_cons, List.flatten_nil, List.append_nil]
    unfold_abbrev_sides
    after_results
    rfl
  rw [h, (Z_arr m c 5).trans (arr5 m c)]
  funext j
  pointwise []

/-- Result 4: the gradient's codes. -/
theorem res4 (c : Dev nD) : Pipeline.afterTail₀ cfgs (dats m) 0 (V0 m) [hostOps1] c main_v6 = shapeCast S2x128x18432
    (fun i : S256x18432.Idx => Spec.dyCode (X m c) (i 0) (i 1)) shapeCasts_S256x18432_S2x128x18432 := by
  have h : Pipeline.afterTail₀ cfgs (dats m) 0 (V0 m) [hostOps1] c main_v6 = shapeCast S2x128x18432 (Z m c main_v2_3) shapeCasts_S256x18432_S2x128x18432 := by
    change StableHlo.after (List.flatten [hostOps1]) (Z m c) (Proc.devRef .tc main_v6) = _
    generalize Z m c = z
    simp only [List.flatten_cons, List.flatten_nil, List.append_nil]
    unfold_abbrev_sides
    after_results
    rfl
  rw [h, (Z_arr m c 6).trans (arr6 m c)]

/-- Result 5: the rows' scales. -/
theorem res5 (c : Dev nD) : Pipeline.afterTail₀ cfgs (dats m) 0 (V0 m) [hostOps1] c main_v7 = fun i : S2x128.Idx => Spec.dyScale (X m c) (rowOf i) := by
  have h : Pipeline.afterTail₀ cfgs (dats m) 0 (V0 m) [hostOps1] c main_v7 = shapeCast S2x128 (Z m c main_v2_4) shapeCasts_S256x1_S2x128 := by
    change StableHlo.after (List.flatten [hostOps1]) (Z m c) (Proc.devRef .tc main_v7) = _
    generalize Z m c = z
    simp only [List.flatten_cons, List.flatten_nil, List.append_nil]
    unfold_abbrev_sides
    after_results
    rfl
  rw [h, (Z_arr m c 7).trans (arr7 m c)]
  funext j
  pointwise [rowOf]

/-- The reference's run, its results and its arguments named. -/
theorem run : θ_run defs (onTc (τ := τ) (main (F := Ideal))) ⟨m, fun _ => 0, ρ⟩ (fun r => ∀ c : Dev nD,
      r.2.mem ((c.tc : Thread nD τ).loc main_v3) = shapeCast S2x128x7168
          (fun i : S256x7168.Idx => Spec.dxCode (X m c) (W m c) (S m c) (i 0) (i 1)) shapeCasts_S256x7168_S2x128x7168
      ∧ r.2.mem ((c.tc : Thread nD τ).loc main_v4) = (fun _ : S_.Idx => Spec.dxScale (X m c) (W m c) (S m c))
      ∧ r.2.mem ((c.tc : Thread nD τ).loc main_v5) = (fun _ : S_.Idx => Spec.dxAmax (X m c) (W m c) (S m c))
      ∧ r.2.mem ((c.tc : Thread nD τ).loc main_v6) = shapeCast S2x128x18432
          (fun i : S256x18432.Idx => Spec.dyCode (X m c) (i 0) (i 1)) shapeCasts_S256x18432_S2x128x18432
      ∧ r.2.mem ((c.tc : Thread nD τ).loc main_v7) = (fun i : S2x128.Idx => Spec.dyScale (X m c) (rowOf i))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  run_from Gen.run_main m ρ
  · exact res1 m c
  · exact res2 m c
  · exact res3 m c
  · exact res4 m c
  · exact res5 m c
  · exact W_main_arg0 m (dats m) c
  · exact W_main_arg2 m (dats m) c

end Cert.ReferenceIdeal.Run
end
-- ==== Proof.Equation.lean ====
/-
  The equation: kernel and reference, started on equal arguments, end with the same five results.
-/
module

public import proofs.«01_k».proof.Defs
public import proofs.«01_k».proof.Proof.KernelRun
public import proofs.«01_k».proof.Proof.RefRun

@[expose] public section

noncomputable section

open Idealize.ShloMosaic Idealize.ShloMosaic.TcCoe Idealize.SL.Sem

namespace Cert.Equation

/-- Equal gradients give equal rows. -/
theorem rows_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0)) :
    Cert.ReferenceIdeal.Run.X m' c = Cert.KernelIdeal.Arrays.X m c := by
  unfold Cert.ReferenceIdeal.Run.X Cert.KernelIdeal.Arrays.X
  rw [h]

/-- Equal weight scales give equal rows of scales. -/
theorem scales_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg2)
      = m ((c.tc : Thread Cert.KernelIdeal.nD Cert.KernelIdeal.τ).loc Cert.KernelIdeal.main_arg2)) :
    Cert.ReferenceIdeal.Run.S m' c = Cert.KernelIdeal.Arrays.S m c := by
  unfold Cert.ReferenceIdeal.Run.S Cert.KernelIdeal.Arrays.S
  rw [h]

/-- On equal arguments both programs run and end with the same five results, each argument unchanged. -/
theorem algebraic : Cert.algebraic_KernelIdeal_ReferenceIdeal
    (hKernelIdeal := Cert.KernelIdeal.Gen.facts) (hReferenceIdeal := Cert.ReferenceIdeal.Gen.facts) := by
  intro m g m' g' _ hagree
  refine ⟨_, _, _, _, _, Cert.KernelIdeal.Run.run m g, (θ_run _ _ _).mono (fun r h c => ?_) (Cert.ReferenceIdeal.Run.run m' g')⟩
  obtain ⟨h1, h2, h3, h4, h5, h6, h7, h8⟩ := h c
  rw [rows_eq m m' c (hagree c).1, scales_eq m m' c (hagree c).2.2,
    show Cert.ReferenceIdeal.Run.W m' c = Cert.KernelIdeal.Arrays.W m c from (hagree c).2.1] at h1 h2 h3
  rw [rows_eq m m' c (hagree c).1] at h4 h5
  exact ⟨h1, h2, h3, h4, h5, h6, h7, h8⟩

end Cert.Equation
end
-- ==== Proof.lean ====
/- The proof of the whole claim (`Cert.Claim` of proofs.«01_k».proof.Defs): each of the three programs runs and leaves its
   arguments and its semaphores as they were (the generated frames), the kernel's reading over the extended reals is its own
   text, and kernel and reference end with the same five results (Proof/Equation.lean). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The five claims together. -/
theorem claim : Cert.Claim := ⟨Cert.Kernel.Gen.facts, Cert.KernelIdeal.Gen.facts, Cert.ReferenceIdeal.Gen.facts, fun m ρ _ => Cert.Kernel.Gen.frame m ρ,
  fun m ρ _ => Cert.KernelIdeal.Gen.frame m ρ, fun m ρ _ => Cert.ReferenceIdeal.Gen.frame m ρ, trivial, Cert.Equation.algebraic⟩

end Cert.Proof

end
